-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S16384 : Shape := ⟨1, ![16384]⟩
abbrev S131072x128 : Shape := ⟨2, ![131072, 128]⟩
abbrev S131072 : Shape := ⟨1, ![131072]⟩
abbrev S128x128 : Shape := ⟨2, ![128, 128]⟩
abbrev S_ : Shape := ⟨0, ![]⟩
abbrev S1024x128 : Shape := ⟨2, ![1024, 128]⟩
abbrev S32768x128 : Shape := ⟨2, ![32768, 128]⟩
abbrev S256x128 : Shape := ⟨2, ![256, 128]⟩
abbrev S6x5 : Shape := ⟨2, ![6, 5]⟩
abbrev S3x5 : Shape := ⟨2, ![3, 5]⟩
abbrev S1x1 : Shape := ⟨2, ![1, 1]⟩

abbrev nBuf : Space → Nat
  | .hbm => 20
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S131072x128, .f32⟩
  | .hbm, ⟨3, _⟩ => ⟨S131072, .i32⟩
  | .hbm, ⟨4, _⟩ => ⟨S131072, .i1⟩
  | .hbm, ⟨5, _⟩ => ⟨S128x128, .i32⟩
  | .hbm, ⟨6, _⟩ => ⟨S_, .i8⟩
  | .hbm, ⟨7, _⟩ => ⟨S128x128, .i8⟩
  | .hbm, ⟨8, _⟩ => ⟨S1024x128, .i32⟩
  | .hbm, ⟨9, _⟩ => ⟨S131072, .i8⟩
  | .hbm, ⟨10, _⟩ => ⟨S1024x128, .i8⟩
  | .hbm, ⟨11, _⟩ => ⟨S131072x128, .f32⟩
  | .hbm, ⟨12, _⟩ => ⟨S1024x128, .i32⟩
  | .hbm, ⟨13, _⟩ => ⟨S1024x128, .i8⟩
  | .hbm, ⟨14, _⟩ => ⟨S131072, .i32⟩
  | .hbm, ⟨15, _⟩ => ⟨S131072, .i8⟩
  | .hbm, ⟨16, _⟩ => ⟨S_, .i8⟩
  | .hbm, ⟨17, _⟩ => ⟨S131072, .i8⟩
  | .hbm, ⟨18, _⟩ => ⟨S131072, .i1⟩
  | .hbm, ⟨19, _⟩ => ⟨S131072, .i1⟩
  | .local _ .vmem, ⟨0, _⟩ => ⟨S32768x128, .f32⟩
  | .local _ .vmem, ⟨1, _⟩ => ⟨S32768x128, .f32⟩
  | .local _ .vmem, ⟨2, _⟩ => ⟨S32768x128, .f32⟩
  | .local _ .vmem, ⟨3, _⟩ => ⟨S256x128, .i32⟩
  | .local _ .vmem, ⟨4, _⟩ => ⟨S256x128, .i32⟩
  | .local _ .vmem, ⟨5, _⟩ => ⟨S256x128, .i32⟩
  | .local _ .vmem, ⟨6, _⟩ => ⟨S256x128, .i8⟩
  | .local _ .vmem, ⟨7, _⟩ => ⟨S256x128, .i8⟩
  | .local _ .vmem, ⟨8, _⟩ => ⟨S256x128, .i8⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩

abbrev nD : Nat := 1
abbrev τ : Topo := Topo.v7x

variable {F : FTy → Type} [FloatOps F]

abbrev grid0 : Pipeline.Grid := .none
-- ==== ReferenceIdeal.lean ====
abbrev S16384x128 : Shape := ⟨2, ![16384, 128]⟩
abbrev S16384 : Shape := ⟨1, ![16384]⟩
abbrev S131072x128 : Shape := ⟨2, ![131072, 128]⟩
abbrev S131072 : Shape := ⟨1, ![131072]⟩
abbrev S_ : Shape := ⟨0, ![]⟩
abbrev S16384x1 : Shape := ⟨2, ![16384, 1]⟩

abbrev nBuf : Space → Nat
  | .hbm => 60
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S131072x128, .f32⟩
  | .hbm, ⟨3, _⟩ => ⟨S131072, .i32⟩
  | .hbm, ⟨4, _⟩ => ⟨S131072, .i1⟩
  | .hbm, ⟨5, _⟩ => ⟨S16384, .i32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S_, .i1⟩
  | .hbm, ⟨25, _⟩ => ⟨S16384, .i1⟩
  | .hbm, ⟨26, _⟩ => ⟨S16384, .i1⟩
  | .hbm, ⟨27, _⟩ => ⟨S16384, .i1⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S131072x128, .f32⟩
  | .hbm, ⟨40, _⟩ => ⟨S_, .i32⟩
  | .hbm, ⟨41, _⟩ => ⟨S16384, .i32⟩
  | .hbm, ⟨42, _⟩ => ⟨S16384, .i1⟩
  | .hbm, ⟨43, _⟩ => ⟨S_, .i32⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S16384x1, .i32⟩
  | .hbm, ⟨48, _⟩ => ⟨S131072, .i32⟩
  | .hbm, ⟨49, _⟩ => ⟨S_, .i32⟩
  | .hbm, ⟨50, _⟩ => ⟨S16384, .i32⟩
  | .hbm, ⟨51, _⟩ => ⟨S16384, .i1⟩
  | .hbm, ⟨52, _⟩ => ⟨S_, .i32⟩
  | .hbm, ⟨53, _⟩ => ⟨S16384, .i32⟩
  | .hbm, ⟨54, _⟩ => ⟨S16384, .i32⟩
  | .hbm, ⟨55, _⟩ => ⟨S16384, .i32⟩
  | .hbm, ⟨56, _⟩ => ⟨S16384x1, .i32⟩
  | .hbm, ⟨57, _⟩ => ⟨S_, .i1⟩
  | .hbm, ⟨58, _⟩ => ⟨S16384, .i1⟩
  | .hbm, ⟨59, _⟩ => ⟨S131072, .i1⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v3 : Ref sig .tc := ⟨.hbm, 30, rfl⟩
abbrev main_c_1 : Ref sig .tc := ⟨.hbm, 31, rfl⟩
abbrev main_v4 : Ref sig .tc := ⟨.hbm, 32, rfl⟩
abbrev main_v5 : Ref sig .tc := ⟨.hbm, 33, rfl⟩
abbrev main_c_2 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_3 : Ref sig .tc := ⟨.hbm, 40, rfl⟩
abbrev main_v11 : Ref sig .tc := ⟨.hbm, 41, rfl⟩
abbrev main_v12 : Ref sig .tc := ⟨.hbm, 42, rfl⟩
abbrev main_c_4 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c_5 : Ref sig .tc := ⟨.hbm, 49, rfl⟩
abbrev main_v18 : Ref sig .tc := ⟨.hbm, 50, rfl⟩
abbrev main_v19 : Ref sig .tc := ⟨.hbm, 51, rfl⟩
abbrev main_c_6 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_c_7 : Ref sig .tc := ⟨.hbm, 57, rfl⟩
abbrev main_v24 : Ref sig .tc := ⟨.hbm, 58, rfl⟩
abbrev main_v25 : Ref sig .tc := ⟨.hbm, 59, rfl⟩

abbrev nD : Nat := 1
abbrev τ : Topo := Topo.v7x

variable {F : FTy → Type} [FloatOps F]
-- ==== Proof.Rows.lean ====
/-
  Hand-written, untrusted. Rows of a matrix: one array laid over the first rows of a taller one, and what a buffer
  written in five blocks of whole rows holds when the first block comes from one array and the other four from the
  same rows of another. Nothing here names a program.
-/
module

public import Idealize.ShloMosaic.Lib.Pipeline.FrameBody
public import Idealize.ShloMosaic.Lib.Writes
public import Idealize.ShloMosaic.Lib.WritesUnit
public import Idealize.ShloMosaic.Lib.Routing.Shapes

@[expose] public section

noncomputable section

namespace Cert.Rows

open Idealize.ShloMosaic Idealize.ShloMosaic.ValueIdx
open Idealize.ShloMosaic.Routing (shape1 shape2)

/-- The matrix whose first `A` rows are `top`'s and whose other rows are `rest`'s. -/
def overlay {A B C : ℕ} {α : Type} (top : (shape2 A C).Idx → α) (rest : (shape2 B C).Idx → α) : (shape2 B C).Idx → α :=
  fun i => if h : (i 0).val < A then top (ix2 ⟨(i 0).val, h⟩ (i 1)) else rest i

/-- The vector whose first `A` entries are `top`'s and whose other entries are `rest`'s. -/
def overlay1 {A B : ℕ} {α : Type} (top : (shape1 A).Idx → α) (rest : (shape1 B).Idx → α) : (shape1 B).Idx → α :=
  fun i => if h : (i 0).val < A then top (ix1 ⟨(i 0).val, h⟩) else rest i

variable {sig : RefSig} {κ : Kind} {sp : Space} {Val : EltTy → Type}

/-- A block read back through the rectangle of the newest write is that write's payload, whatever lay there before. -/
theorem read_slice_newest {s : Shape} {e : EltTy} (v : View sig κ sp s e) (f : v.ty.Contents Val) (r : Rect s) (w : r.shape.Idx → Val e)
    (L : List (View.Piece Val s e)) : (v.slice r).read Val (v.writes Val f (⟨r, w⟩ :: L)) = w :=
  funext fun x => View.read_writes_cons_emb v f r w L x

/-- Reading a matrix through the rectangle of all its elements changes nothing. -/
theorem all_rows {A C : ℕ} {α : Type} (f : (shape2 A C).Idx → α) (i : ∀ a : Fin 2, (![0, 0] : Fin 2 → ℕ) a + (![A, C] : Fin 2 → ℕ) a ≤ (shape2 A C).size a) :
    (fun x => f ((Rect.unit (s := shape2 A C) ![0, 0] ![A, C] i).emb x)) = f := by
  funext x
  refine congrArg f (funext (Fin.forall_fin_two.mpr ⟨Fin.ext ?_, Fin.ext ?_⟩))
  · show 0 + 1 * (x 0).val = (x 0).val
    omega
  · show 0 + 1 * (x 1).val = (x 1).val
    omega

/-- A matrix written in five blocks of whole rows that follow one another from row 0 to its last row: the oldest block
    holds `top`, each of the other four the rows of `rest` at its own place. It reads `top` laid over `rest`. -/
theorem read_five_blocks {e : EltTy} {B C o1 o2 o3 o4 : ℕ} {n1 n2 n3 n4 : Fin 2 → ℕ} {A : ℕ}
    (v : View sig κ sp (shape2 B C) e) (f : v.ty.Contents Val) (top : (shape2 A C).Idx → Val e) (rest : (shape2 B C).Idx → Val e)
    (i0 : ∀ a : Fin 2, (![0, 0] : Fin 2 → ℕ) a + (![A, C] : Fin 2 → ℕ) a ≤ (shape2 B C).size a)
    (i1 : ∀ a : Fin 2, (![o1, 0] : Fin 2 → ℕ) a + n1 a ≤ (shape2 B C).size a)
    (i2 : ∀ a : Fin 2, (![o2, 0] : Fin 2 → ℕ) a + n2 a ≤ (shape2 B C).size a)
    (i3 : ∀ a : Fin 2, (![o3, 0] : Fin 2 → ℕ) a + n3 a ≤ (shape2 B C).size a)
    (i4 : ∀ a : Fin 2, (![o4, 0] : Fin 2 → ℕ) a + n4 a ≤ (shape2 B C).size a)
    (h1 : o1 = A) (h2 : o2 = o1 + n1 0) (h3 : o3 = o2 + n2 0) (h4 : o4 = o3 + n3 0) (hB : B = o4 + n4 0)
    (c1 : n1 1 = C) (c2 : n2 1 = C) (c3 : n3 1 = C) (c4 : n4 1 = C)
    (w0 : (Rect.unit (s := shape2 B C) ![0, 0] ![A, C] i0).shape.Idx → Val e) (w1 : (Rect.unit (s := shape2 B C) ![o1, 0] n1 i1).shape.Idx → Val e)
    (w2 : (Rect.unit (s := shape2 B C) ![o2, 0] n2 i2).shape.Idx → Val e) (w3 : (Rect.unit (s := shape2 B C) ![o3, 0] n3 i3).shape.Idx → Val e)
    (w4 : (Rect.unit (s := shape2 B C) ![o4, 0] n4 i4).shape.Idx → Val e)
    (p0 : w0 = top) (p1 : w1 = fun x => rest ((Rect.unit (s := shape2 B C) ![o1, 0] n1 i1).emb x))
    (p2 : w2 = fun x => rest ((Rect.unit (s := shape2 B C) ![o2, 0] n2 i2).emb x))
    (p3 : w3 = fun x => rest ((Rect.unit (s := shape2 B C) ![o3, 0] n3 i3).emb x))
    (p4 : w4 = fun x => rest ((Rect.unit (s := shape2 B C) ![o4, 0] n4 i4).emb x)) :
    v.read Val (v.writes Val f [⟨Rect.unit ![o4, 0] n4 i4, w4⟩, ⟨Rect.unit ![o3, 0] n3 i3, w3⟩, ⟨Rect.unit ![o2, 0] n2 i2, w2⟩,
        ⟨Rect.unit ![o1, 0] n1 i1, w1⟩, ⟨Rect.unit ![0, 0] ![A, C] i0, w0⟩]) = overlay top rest := by
  -- a later block lies below the first `A` rows
  have low : ∀ (o : ℕ) (n : Fin 2 → ℕ) (i : ∀ a : Fin 2, (![o, 0] : Fin 2 → ℕ) a + n a ≤ (shape2 B C).size a), A ≤ o →
      ∀ x : (Rect.unit (s := shape2 B C) ![o, 0] n i).shape.Idx,
        rest ((Rect.unit (s := shape2 B C) ![o, 0] n i).emb x) = overlay top rest ((Rect.unit (s := shape2 B C) ![o, 0] n i).emb x) := by
    intro o n i ho x
    have e : ((Rect.unit (s := shape2 B C) ![o, 0] n i).emb x 0).val = o + 1 * (x 0).val := rfl
    unfold overlay
    rw [dif_neg (by rw [e]; omega)]
  -- a row of a block is in it
  have inside : ∀ (o : ℕ) (n : Fin 2 → ℕ) (i : ∀ a : Fin 2, (![o, 0] : Fin 2 → ℕ) a + n a ≤ (shape2 B C).size a) (y : (shape2 B C).Idx),
      n 1 = C → o ≤ (y 0).val → (y 0).val < o + n 0 → y ∈ (Rect.unit (s := shape2 B C) ![o, 0] n i).set := by
    intro o n i y hc hl hu
    rw [Rect.mem_set_unit]
    refine Fin.forall_fin_two.mpr ⟨⟨hl, hu⟩, Nat.zero_le _, ?_⟩
    have := (y 1).isLt
    show (y 1).val < 0 + n 1
    have hy : (y 1).val < C := (y 1).isLt
    omega
  funext y
  have hy : (y 0).val < B := (y 0).isLt
  refine View.read_writes_apply_of_pieces v f (overlay top rest) _ ?_ y ?_
  · simp only [List.forall_mem_cons, List.not_mem_nil, false_imp_iff, implies_true, and_true]
    refine ⟨fun x => ?_, fun x => ?_, fun x => ?_, fun x => ?_, fun x => ?_⟩
    · subst p4; exact low _ _ _ (by omega) x
    · subst p3; exact low _ _ _ (by omega) x
    · subst p2; exact low _ _ _ (by omega) x
    · subst p1; exact low _ _ _ (by omega) x
    · subst p0
      have e0 : ((Rect.unit (s := shape2 B C) ![0, 0] ![A, C] i0).emb x 0).val = 0 + 1 * (x 0).val := rfl
      have hx : (x 0).val < A := (x 0).isLt
      unfold overlay
      rw [dif_pos (by rw [e0]; omega)]
      refine congrArg w0 (funext (Fin.forall_fin_two.mpr ⟨Fin.ext ?_, Fin.ext ?_⟩))
      · show (x 0).val = 0 + 1 * (x 0).val
        omega
      · show (x 1).val = 0 + 1 * (x 1).val
        omega
  · simp only [List.exists_mem_cons_iff, List.not_mem_nil, false_and, exists_false, or_false]
    rcases Nat.lt_or_ge (y 0).val o4 with a4 | a4
    · rcases Nat.lt_or_ge (y 0).val o3 with a3 | a3
      · rcases Nat.lt_or_ge (y 0).val o2 with a2 | a2
        · rcases Nat.lt_or_ge (y 0).val o1 with a1 | a1
          · exact .inr (.inr (.inr (.inr (inside 0 ![A, C] i0 y rfl (Nat.zero_le _) (by show _ < 0 + A; omega)))))
          · exact .inr (.inr (.inr (.inl (inside o1 n1 i1 y c1 a1 (by omega)))))
        · exact .inr (.inr (.inl (inside o2 n2 i2 y c2 a2 (by omega))))
      · exact .inr (.inl (inside o3 n3 i3 y c3 a3 (by omega)))
    · exact .inl (inside o4 n4 i4 y c4 a4 (by omega))

end Cert.Rows

end
-- ==== Proof.KI.Body.lean ====
/-
  Hand-written, untrusted. One run of the kernel's body, its five chunks of rows taken from high-bandwidth memory through
  three slots of scratch and on into the results: with every buffer held whole and every semaphore cell it uses at
  zero, the body ends, leaves its six inputs as they were, leaves each result at the new rows laid over the old
  queue, and every cell at zero again.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffixV
public import Idealize.ShloMosaic.Lib.Ring
public import Idealize.ShloMosaic.Lib.Tactic
public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Rows
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A whole buffer of core `c` at the contents `f`. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The result's five blocks of rows, the first the new rows and the others the queue's at their own places: the new rows
    laid over the queue. -/
theorem writes_vecs (f6 : (Memref.whole main_v5_0).view.ty.Contents (Elt F)) (f0 : S16384x128.Idx → Elt F .f32) (f3 : S131072x128.Idx → Elt F .f32)
    (i0 : ∀ a, (![0, 0] : Fin 2 → ℕ) a + S16384x128.size a ≤ S131072x128.size a)
    (i1 : ∀ a, (![16384, 0] : Fin 2 → ℕ) a + S32768x128.size a ≤ S131072x128.size a)
    (i2 : ∀ a, (![49152, 0] : Fin 2 → ℕ) a + S32768x128.size a ≤ S131072x128.size a)
    (i3 : ∀ a, (![81920, 0] : Fin 2 → ℕ) a + S32768x128.size a ≤ S131072x128.size a)
    (i4 : ∀ a, (![114688, 0] : Fin 2 → ℕ) a + S16384x128.size a ≤ S131072x128.size a)
    (w0 : S16384x128.Idx → Elt F .f32) (w1 w2 w3 : S32768x128.Idx → Elt F .f32) (w4 : S16384x128.Idx → Elt F .f32)
    (p0 : w0 = f0) (p1 : w1 = fun x => f3 ((Rect.unit (s := S131072x128) ![16384, 0] S32768x128.size i1).emb x))
    (p2 : w2 = fun x => f3 ((Rect.unit (s := S131072x128) ![49152, 0] S32768x128.size i2).emb x))
    (p3 : w3 = fun x => f3 ((Rect.unit (s := S131072x128) ![81920, 0] S32768x128.size i3).emb x))
    (p4 : w4 = fun x => f3 ((Rect.unit (s := S131072x128) ![114688, 0] S16384x128.size i4).emb x)) :
    (Memref.whole main_v5_0).view.writes (Elt F) f6 [⟨Rect.unit ![114688, 0] S16384x128.size i4, w4⟩, ⟨Rect.unit ![81920, 0] S32768x128.size i3, w3⟩,
      ⟨Rect.unit ![49152, 0] S32768x128.size i2, w2⟩, ⟨Rect.unit ![16384, 0] S32768x128.size i1, w1⟩, ⟨Rect.unit ![0, 0] S16384x128.size i0, w0⟩] = overlay f0 f3 := by
  have e := View.read_whole (Val := Elt F) main_v5_0 ((Memref.whole main_v5_0).view.writes (Elt F) f6 [⟨Rect.unit ![114688, 0] S16384x128.size i4, w4⟩,
    ⟨Rect.unit ![81920, 0] S32768x128.size i3, w3⟩, ⟨Rect.unit ![49152, 0] S32768x128.size i2, w2⟩, ⟨Rect.unit ![16384, 0] S32768x128.size i1, w1⟩,
    ⟨Rect.unit ![0, 0] S16384x128.size i0, w0⟩])
  exact e.symm.trans (read_five_blocks (A := 16384) (B := 131072) (C := 128) (Memref.whole main_v5_0).view f6 f0 f3 i0 i1 i2 i3 i4 rfl
    (show 49152 = 16384 + 32768 by norm_num) (show 81920 = 49152 + 32768 by norm_num) (show 114688 = 81920 + 32768 by norm_num)
    (show 131072 = 114688 + 16384 by norm_num) rfl rfl rfl rfl w0 w1 w2 w3 w4 p0 p1 p2 p3 p4)

set_option sl_exec.dmaWindow true in
set_option maxHeartbeats 4000000 in
/-- The body's run: the inputs unchanged, each result the new rows over the queue's, the scratch at some contents,
    the cells back at zero. -/
theorem body_run (c : Dev nD)
    (f0 : Buf (Elt F) ((Memref.whole main_arg0).view.loc (c : Thread nD τ)))
    (f1 : Buf (Elt F) ((Memref.whole main_v0).view.loc (c : Thread nD τ)))
    (f2 : Buf (Elt F) ((Memref.whole main_v1).view.loc (c : Thread nD τ)))
    (f3 : Buf (Elt F) ((Memref.whole main_arg2).view.loc (c : Thread nD τ)))
    (f4 : Buf (Elt F) ((Memref.whole main_v2).view.loc (c : Thread nD τ)))
    (f5 : Buf (Elt F) ((Memref.whole main_v4).view.loc (c : Thread nD τ)))
    (f6 : Buf (Elt F) ((Memref.whole main_v5_0).view.loc (c : Thread nD τ)))
    (f7 : Buf (Elt F) ((Memref.whole main_v5_1).view.loc (c : Thread nD τ)))
    (f8 : Buf (Elt F) ((Memref.whole main_v5_2).view.loc (c : Thread nD τ)))
    (f9 : Buf (Elt F) ((Memref.whole cc0_scratch0).view.loc (c : Thread nD τ)))
    (f10 : Buf (Elt F) ((Memref.whole cc0_scratch1).view.loc (c : Thread nD τ)))
    (f11 : Buf (Elt F) ((Memref.whole cc0_scratch2).view.loc (c : Thread nD τ)))
    (f12 : Buf (Elt F) ((Memref.whole cc0_scratch3).view.loc (c : Thread nD τ)))
    (f13 : Buf (Elt F) ((Memref.whole cc0_scratch4).view.loc (c : Thread nD τ)))
    (f14 : Buf (Elt F) ((Memref.whole cc0_scratch5).view.loc (c : Thread nD τ)))
    (f15 : Buf (Elt F) ((Memref.whole cc0_scratch6).view.loc (c : Thread nD τ)))
    (f16 : Buf (Elt F) ((Memref.whole cc0_scratch7).view.loc (c : Thread nD τ)))
    (f17 : Buf (Elt F) ((Memref.whole cc0_scratch8).view.loc (c : Thread nD τ)))
    (W : Waits sig Unit) (K : PUnit → sProp 𝕄) :
    iprop(hbPt c (Memref.whole main_arg0) f0 ∗ hbPt c (Memref.whole main_v0) f1 ∗ hbPt c (Memref.whole main_v1) f2
      ∗ hbPt c (Memref.whole main_arg2) f3 ∗ hbPt c (Memref.whole main_v2) f4 ∗ hbPt c (Memref.whole main_v4) f5
      ∗ hbPt c (Memref.whole main_v5_0) f6 ∗ hbPt c (Memref.whole main_v5_1) f7 ∗ hbPt c (Memref.whole main_v5_2) f8
      ∗ hbPt c (Memref.whole cc0_scratch0) f9 ∗ hbPt c (Memref.whole cc0_scratch1) f10 ∗ hbPt c (Memref.whole cc0_scratch2) f11
      ∗ hbPt c (Memref.whole cc0_scratch3) f12 ∗ hbPt c (Memref.whole cc0_scratch4) f13 ∗ hbPt c (Memref.whole cc0_scratch5) f14
      ∗ hbPt c (Memref.whole cc0_scratch6) f15 ∗ hbPt c (Memref.whole cc0_scratch7) f16 ∗ hbPt c (Memref.whole cc0_scratch8) f17
      ∗ semVal ((c : Thread nD τ), SemLoc.dma 0) 0 ∗ semVal ((c : Thread nD τ), SemLoc.dma 1) 0 ∗ semVal ((c : Thread nD τ), SemLoc.dma 2) 0
      ∗ semVal ((c : Thread nD τ), SemLoc.dma 3) 0 ∗ semVal ((c : Thread nD τ), SemLoc.dma 4) 0 ∗ semVal ((c : Thread nD τ), SemLoc.dma 5) 0
      ∗ semVal ((c : Thread nD τ), SemLoc.dma 6) 0 ∗ semVal ((c : Thread nD τ), SemLoc.dma 7) 0 ∗ semVal ((c : Thread nD τ), SemLoc.dma 8) 0
      ∗ semVal ((c : Thread nD τ), SemLoc.dma 9) 0 ∗ semVal ((c : Thread nD τ), SemLoc.dma 10) 0 ∗ semVal ((c : Thread nD τ), SemLoc.dma 11) 0
      ∗ semVal ((c : Thread nD τ), SemLoc.dma 12) 0 ∗ semVal ((c : Thread nD τ), SemLoc.dma 13) 0 ∗ semVal ((c : Thread nD τ), SemLoc.dma 14) 0
      ∗ semVal ((c : Thread nD τ), SemLoc.dma 30) 0 ∗ semVal ((c : Thread nD τ), SemLoc.dma 31) 0 ∗ semVal ((c : Thread nD τ), SemLoc.dma 32) 0
      ∗ semVal ((c : Thread nD τ), SemLoc.dma 33) 0 ∗ semVal ((c : Thread nD τ), SemLoc.dma 34) 0 ∗ semVal ((c : Thread nD τ), SemLoc.dma 35) 0
      ∗ semVal ((c : Thread nD τ), SemLoc.dma 36) 0 ∗ semVal ((c : Thread nD τ), SemLoc.dma 37) 0 ∗ semVal ((c : Thread nD τ), SemLoc.dma 38) 0
      ∗ semVal ((c : Thread nD τ), SemLoc.dma 39) 0 ∗ semVal ((c : Thread nD τ), SemLoc.dma 40) 0 ∗ semVal ((c : Thread nD τ), SemLoc.dma 41) 0
      ∗ semVal ((c : Thread nD τ), SemLoc.dma 42) 0 ∗ semVal ((c : Thread nD τ), SemLoc.dma 43) 0 ∗ semVal ((c : Thread nD τ), SemLoc.dma 44) 0
      ∗ owes (c : Thread nD τ) 0 W
      ∗ (iprop(hbPt c (Memref.whole main_arg0) f0 ∗ hbPt c (Memref.whole main_v0) f1 ∗ hbPt c (Memref.whole main_v1) f2
      ∗ hbPt c (Memref.whole main_arg2) f3 ∗ hbPt c (Memref.whole main_v2) f4 ∗ hbPt c (Memref.whole main_v4) f5
      ∗ (∃ g, ⌜g = overlay f0 f3⌝ ∗ hbPt c (Memref.whole main_v5_0) g) ∗ (∃ g, ⌜g = overlay f1 f4⌝ ∗ hbPt c (Memref.whole main_v5_1) g) ∗ (∃ g, ⌜g = overlay f2 f5⌝ ∗ hbPt c (Memref.whole main_v5_2) g)
      ∗ (∃ g, hbPt c (Memref.whole cc0_scratch0) g) ∗ (∃ g, hbPt c (Memref.whole cc0_scratch1) g) ∗ (∃ g, hbPt c (Memref.whole cc0_scratch2) g)
      ∗ (∃ g, hbPt c (Memref.whole cc0_scratch3) g) ∗ (∃ g, hbPt c (Memref.whole cc0_scratch4) g) ∗ (∃ g, hbPt c (Memref.whole cc0_scratch5) g)
      ∗ (∃ g, hbPt c (Memref.whole cc0_scratch6) g) ∗ (∃ g, hbPt c (Memref.whole cc0_scratch7) g) ∗ (∃ g, hbPt c (Memref.whole cc0_scratch8) g)
      ∗ semVal ((c : Thread nD τ), SemLoc.dma 0) 0 ∗ semVal ((c : Thread nD τ), SemLoc.dma 1) 0 ∗ semVal ((c : Thread nD τ), SemLoc.dma 2) 0
      ∗ semVal ((c : Thread nD τ), SemLoc.dma 3) 0 ∗ semVal ((c : Thread nD τ), SemLoc.dma 4) 0 ∗ semVal ((c : Thread nD τ), SemLoc.dma 5) 0
      ∗ semVal ((c : Thread nD τ), SemLoc.dma 6) 0 ∗ semVal ((c : Thread nD τ), SemLoc.dma 7) 0 ∗ semVal ((c : Thread nD τ), SemLoc.dma 8) 0
      ∗ semVal ((c : Thread nD τ), SemLoc.dma 9) 0 ∗ semVal ((c : Thread nD τ), SemLoc.dma 10) 0 ∗ semVal ((c : Thread nD τ), SemLoc.dma 11) 0
      ∗ semVal ((c : Thread nD τ), SemLoc.dma 12) 0 ∗ semVal ((c : Thread nD τ), SemLoc.dma 13) 0 ∗ semVal ((c : Thread nD τ), SemLoc.dma 14) 0
      ∗ semVal ((c : Thread nD τ), SemLoc.dma 30) 0 ∗ semVal ((c : Thread nD τ), SemLoc.dma 31) 0 ∗ semVal ((c : Thread nD τ), SemLoc.dma 32) 0
      ∗ semVal ((c : Thread nD τ), SemLoc.dma 33) 0 ∗ semVal ((c : Thread nD τ), SemLoc.dma 34) 0 ∗ semVal ((c : Thread nD τ), SemLoc.dma 35) 0
      ∗ semVal ((c : Thread nD τ), SemLoc.dma 36) 0 ∗ semVal ((c : Thread nD τ), SemLoc.dma 37) 0 ∗ semVal ((c : Thread nD τ), SemLoc.dma 38) 0
      ∗ semVal ((c : Thread nD τ), SemLoc.dma 39) 0 ∗ semVal ((c : Thread nD τ), SemLoc.dma 40) 0 ∗ semVal ((c : Thread nD τ), SemLoc.dma 41) 0
      ∗ semVal ((c : Thread nD τ), SemLoc.dma 42) 0 ∗ semVal ((c : Thread nD τ), SemLoc.dma 43) 0 ∗ semVal ((c : Thread nD τ), SemLoc.dma 44) 0
          ∗ (∃ W', owes (c : Thread nD τ) 0 W')) -∗ K ⟨⟩))
    ⊢ wp frame (wpE (defs₀ (F := F)) Variants.none c none) Set.univ (bodyAt0 t0_0) K := by
  unfold bodyAt0
  simp only [cc0__body_eq_skeleton]; unfold cc0__body_skel
  iintro ⟨H0, H1, H2, H3, H4, H5, H6, H7, H8, H9, H10, H11, H12, H13, H14, H15, H16, H17, Q0, Q1, Q2, Q3, Q4, Q5, Q6, Q7, Q8, Q9, Q10, Q11, Q12, Q13, Q14, Q30, Q31, Q32, Q33, Q34, Q35, Q36, Q37, Q38, Q39, Q40, Q41, Q42, Q43, Q44, HW, Hk⟩
  sl_exec_parts
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · iexists _
    isplitr
    swap; · iexact H6
    ipureintro
    refine writes_vecs f6 f0 f3 _ _ _ _ _ _ _ _ _ _ ?_ ?_ ?_ ?_ ?_
    · sl_unfold_words
      refine Eq.trans (read_slice_newest (Memref.whole _).view _ _ _ _) ?_
      exact all_rows f0 _
    iterate 4 sl_unfold_words; exact read_slice_newest (Memref.whole _).view _ _ _ _
  isplitl [H7]
  · iexists _
    isplitr
    swap; · iexact H7
    ipureintro
    refine read_five_blocks (e := .i32) (A := 128) (B := 1024) (C := 128) (Memref.whole main_v5_1).view f7 f1 f4 _ _ _ _ _ ?_ ?_ ?_ ?_ ?_ ?_ ?_ ?_ ?_ _ _ _ _ _ ?_ ?_ ?_ ?_ ?_
    iterate 9 rfl
    · sl_unfold_words
      refine Eq.trans (read_slice_newest (Memref.whole _).view _ _ _ _) ?_
      exact all_rows f1 _
    iterate 4 sl_unfold_words; exact read_slice_newest (Memref.whole _).view _ _ _ _
  isplitl [H8]
  · iexists _
    isplitr
    swap; · iexact H8
    ipureintro
    refine read_five_blocks (e := .i8) (A := 128) (B := 1024) (C := 128) (Memref.whole main_v5_2).view f8 f2 f5 _ _ _ _ _ ?_ ?_ ?_ ?_ ?_ ?_ ?_ ?_ ?_ _ _ _ _ _ ?_ ?_ ?_ ?_ ?_
    iterate 9 rfl
    · sl_unfold_words
      refine Eq.trans (read_slice_newest (Memref.whole _).view _ _ _ _) ?_
      exact all_rows f2 _
    iterate 4 sl_unfold_words; exact read_slice_newest (Memref.whole _).view _ _ _ _
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  isplitl [Q38]; · iexact Q38
  isplitl [Q39]; · iexact Q39
  isplitl [Q40]; · iexact Q40
  isplitl [Q41]; · iexact Q41
  isplitl [Q42]; · iexact Q42
  isplitl [Q43]; · iexact Q43
  isplitl [Q44]; · iexact Q44
  iexists _; iexact HW

end Cert.KernelIdeal.Hand

end
-- ==== Proof.KI.Run.lean ====
/-
  Hand-written, untrusted. The kernel's launch: the region that runs the body once, with the six inputs read and the three
  results written by the body's own transfers, and @main around it. Every execution ends, every semaphore at zero, every
  buffer of @main at what the host lines after the region make of the region's results.
-/
module

public import proofs.«01_k».proof.Proof.KI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Rows
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The cells the body waits on: three slots of fifteen cells on the way in, and as many on the way out. -/
abbrev osem0 : Fin 30 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44] : Fin 30 → SemLoc sig) j
/-- The body's own semaphore cells are distinct and none of them is the region's. -/
theorem ownSemFacts0 : Pipeline.OwnSemFacts cfg0.spec osem0 := by decide
/-- The body's cells at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0
      ∗ semVal ((c : Thread nD τ), SemLoc.dma 3) 0 ∗ semVal ((c : Thread nD τ), SemLoc.dma 4) 0 ∗ semVal ((c : Thread nD τ), SemLoc.dma 5) 0
      ∗ semVal ((c : Thread nD τ), SemLoc.dma 6) 0 ∗ semVal ((c : Thread nD τ), SemLoc.dma 7) 0 ∗ semVal ((c : Thread nD τ), SemLoc.dma 8) 0
      ∗ semVal ((c : Thread nD τ), SemLoc.dma 9) 0 ∗ semVal ((c : Thread nD τ), SemLoc.dma 10) 0 ∗ semVal ((c : Thread nD τ), SemLoc.dma 11) 0
      ∗ semVal ((c : Thread nD τ), SemLoc.dma 12) 0 ∗ semVal ((c : Thread nD τ), SemLoc.dma 13) 0 ∗ semVal ((c : Thread nD τ), SemLoc.dma 14) 0
      ∗ semVal ((c : Thread nD τ), SemLoc.dma 30) 0 ∗ semVal ((c : Thread nD τ), SemLoc.dma 31) 0 ∗ semVal ((c : Thread nD τ), SemLoc.dma 32) 0
      ∗ semVal ((c : Thread nD τ), SemLoc.dma 33) 0 ∗ semVal ((c : Thread nD τ), SemLoc.dma 34) 0 ∗ semVal ((c : Thread nD τ), SemLoc.dma 35) 0
      ∗ semVal ((c : Thread nD τ), SemLoc.dma 36) 0 ∗ semVal ((c : Thread nD τ), SemLoc.dma 37) 0 ∗ semVal ((c : Thread nD τ), SemLoc.dma 38) 0
      ∗ semVal ((c : Thread nD τ), SemLoc.dma 39) 0 ∗ semVal ((c : Thread nD τ), SemLoc.dma 40) 0 ∗ semVal ((c : Thread nD τ), SemLoc.dma 41) 0
      ∗ semVal ((c : Thread nD τ), SemLoc.dma 42) 0 ∗ semVal ((c : Thread nD τ), SemLoc.dma 43) 0 ∗ semVal ((c : Thread nD τ), SemLoc.dma 44) 0) := by
  rw [Pipeline.ownSems0_eq_of_list c osem0 [0, 1, 2, 3, 4, 5, 6, 7, 8, 9, 10, 11, 12, 13, 14, 15, 16, 17, 18, 19, 20, 21, 22, 23, 24, 25, 26, 27, 28, 29] (by decide) (by decide)]; rfl

/-- The buffers the body's transfers read: the new rows, ids and ones, and the queue's rows, ids and flags. -/
def H0 : Finset (Ref sig .tc) := {main_arg0, main_v0, main_v1, main_arg2, main_v2, main_v4}
/-- The buffers they write: the three results. -/
def R0 : Finset (Ref sig .tc) := {main_v5_0, main_v5_1, main_v5_2}
/-- The inputs the body reads are buffers the region leaves to the memory. -/
theorem H0_sub : H0 ⊆ Pipeline.restRefs sig cfg0.spec := by decide
/-- The three results are such buffers too, and none of them is an input. -/
theorem R0_sub : R0 ⊆ Pipeline.restRefs sig cfg0.spec \ H0 := by decide

/-- The region's three results on core `c`: the new rows over the queue's, of the buffers as the region finds them; any
    other buffer as the region finds it. -/
def G (c : Dev nD) (b : Ref sig .tc) : Buf (Elt F) ((c : Thread nD τ).loc b) :=
  if h : main_v5_0 = b then h ▸ (overlay (V m c main_arg0) (V m c main_arg2) : Buf (Elt F) ((c : Thread nD τ).loc main_v5_0))
  else if h : main_v5_1 = b then h ▸ (overlay (V m c main_v0) (V m c main_v2) : Buf (Elt F) ((c : Thread nD τ).loc main_v5_1))
  else if h : main_v5_2 = b then h ▸ (overlay (V m c main_v1) (V m c main_v4) : Buf (Elt F) ((c : Thread nD τ).loc main_v5_2))
  else V m c b
/-- What the region writes to the first result. -/
theorem G_0 (c : Dev nD) : G m c main_v5_0 = overlay (V m c main_arg0) (V m c main_arg2) := by
  unfold G; rw [dif_pos rfl]
/-- What the region writes to the second result. -/
theorem G_1 (c : Dev nD) : G m c main_v5_1 = overlay (V m c main_v0) (V m c main_v2) := by
  unfold G; rw [dif_neg (by decide), dif_pos rfl]
/-- What the region writes to the third result. -/
theorem G_2 (c : Dev nD) : G m c main_v5_2 = overlay (V m c main_v1) (V m c main_v4) := by
  unfold G; rw [dif_neg (by decide), dif_neg (by decide), dif_pos rfl]

/-- The buffers read, one by one. -/
theorem hbmPts0_eq (c : Dev nD) :
    (bigSep H0 (fun b => ((c : Thread nD τ).loc b) ↦{fullShare} V m c b) : sProp 𝕄)
      = iprop(hbPt c (Memref.whole main_arg0) (V m c main_arg0) ∗ hbPt c (Memref.whole main_v0) (V m c main_v0) ∗ hbPt c (Memref.whole main_v1) (V m c main_v1)
      ∗ hbPt c (Memref.whole main_arg2) (V m c main_arg2) ∗ hbPt c (Memref.whole main_v2) (V m c main_v2) ∗ hbPt c (Memref.whole main_v4) (V m c main_v4)) := by
  rw [BI.bigSep_eq_bigSepL_of_eq [main_arg0, main_v0, main_v1, main_arg2, main_v2, main_v4] (by decide) (by decide)]; rfl
/-- The results, one by one. -/
theorem resPts0_eq (G : (c : Dev nD) → (b : Ref sig .tc) → Buf (Elt F) ((c : Thread nD τ).loc b)) (c : Dev nD) :
    (bigSep R0 (fun b => ((c : Thread nD τ).loc b) ↦{fullShare} G c b) : sProp 𝕄)
      = iprop(hbPt c (Memref.whole main_v5_0) (G c main_v5_0) ∗ hbPt c (Memref.whole main_v5_1) (G c main_v5_1) ∗ hbPt c (Memref.whole main_v5_2) (G c main_v5_2)) := by
  rw [BI.bigSep_eq_bigSepL_of_eq [main_v5_0, main_v5_1, main_v5_2] (by decide) (by decide)]; rfl

/-- What the region holds at a point, part by part: the scratch at some contents, the cells at zero, the inputs as the
    region finds them, the results at `G`. -/
theorem PhiDRV0_eq (G : (c : Dev nD) → (b : Ref sig .tc) → Buf (Elt F) ((c : Thread nD τ).loc b)) (c : Dev nD) :
    (Pipeline.ΦDRV osem0 cfg0.spec H0 R0 (V m) G c : sProp 𝕄)
      = iprop(iprop((∃ g, hbPt c (Memref.whole cc0_scratch0) g) ∗ (∃ g, hbPt c (Memref.whole cc0_scratch1) g) ∗ (∃ g, hbPt c (Memref.whole cc0_scratch2) g)
      ∗ (∃ g, hbPt c (Memref.whole cc0_scratch3) g) ∗ (∃ g, hbPt c (Memref.whole cc0_scratch4) g) ∗ (∃ g, hbPt c (Memref.whole cc0_scratch5) g)
      ∗ (∃ g, hbPt c (Memref.whole cc0_scratch6) g) ∗ (∃ g, hbPt c (Memref.whole cc0_scratch7) g) ∗ (∃ g, hbPt c (Memref.whole cc0_scratch8) g))
        ∗ iprop(semVal ((c : Thread nD τ), SemLoc.dma 0) 0 ∗ semVal ((c : Thread nD τ), SemLoc.dma 1) 0 ∗ semVal ((c : Thread nD τ), SemLoc.dma 2) 0
      ∗ semVal ((c : Thread nD τ), SemLoc.dma 3) 0 ∗ semVal ((c : Thread nD τ), SemLoc.dma 4) 0 ∗ semVal ((c : Thread nD τ), SemLoc.dma 5) 0
      ∗ semVal ((c : Thread nD τ), SemLoc.dma 6) 0 ∗ semVal ((c : Thread nD τ), SemLoc.dma 7) 0 ∗ semVal ((c : Thread nD τ), SemLoc.dma 8) 0
      ∗ semVal ((c : Thread nD τ), SemLoc.dma 9) 0 ∗ semVal ((c : Thread nD τ), SemLoc.dma 10) 0 ∗ semVal ((c : Thread nD τ), SemLoc.dma 11) 0
      ∗ semVal ((c : Thread nD τ), SemLoc.dma 12) 0 ∗ semVal ((c : Thread nD τ), SemLoc.dma 13) 0 ∗ semVal ((c : Thread nD τ), SemLoc.dma 14) 0
      ∗ semVal ((c : Thread nD τ), SemLoc.dma 30) 0 ∗ semVal ((c : Thread nD τ), SemLoc.dma 31) 0 ∗ semVal ((c : Thread nD τ), SemLoc.dma 32) 0
      ∗ semVal ((c : Thread nD τ), SemLoc.dma 33) 0 ∗ semVal ((c : Thread nD τ), SemLoc.dma 34) 0 ∗ semVal ((c : Thread nD τ), SemLoc.dma 35) 0
      ∗ semVal ((c : Thread nD τ), SemLoc.dma 36) 0 ∗ semVal ((c : Thread nD τ), SemLoc.dma 37) 0 ∗ semVal ((c : Thread nD τ), SemLoc.dma 38) 0
      ∗ semVal ((c : Thread nD τ), SemLoc.dma 39) 0 ∗ semVal ((c : Thread nD τ), SemLoc.dma 40) 0 ∗ semVal ((c : Thread nD τ), SemLoc.dma 41) 0
      ∗ semVal ((c : Thread nD τ), SemLoc.dma 42) 0 ∗ semVal ((c : Thread nD τ), SemLoc.dma 43) 0 ∗ semVal ((c : Thread nD τ), SemLoc.dma 44) 0)
        ∗ iprop(hbPt c (Memref.whole main_arg0) (V m c main_arg0) ∗ hbPt c (Memref.whole main_v0) (V m c main_v0) ∗ hbPt c (Memref.whole main_v1) (V m c main_v1)
      ∗ hbPt c (Memref.whole main_arg2) (V m c main_arg2) ∗ hbPt c (Memref.whole main_v2) (V m c main_v2) ∗ hbPt c (Memref.whole main_v4) (V m c main_v4))
        ∗ iprop(hbPt c (Memref.whole main_v5_0) (G c main_v5_0) ∗ hbPt c (Memref.whole main_v5_1) (G c main_v5_1) ∗ hbPt c (Memref.whole main_v5_2) (G c main_v5_2))) := by
  unfold Pipeline.ΦDRV
  rw [scopedRest0_eq, ownSems00_eq, hbmPts0_eq, resPts0_eq]

/-- The proof data of the one pipeline on core `c`: no window; the results as found before the point, at `G` after it. -/
def dats (_ : Fin 1) (c : Dev nD) : Dat τ (Elt F) Unit ℕ (Pipeline.UD sig nD τ) ℕ cfg0 c where
  A w := w.elim0
  after w _ := w.elim0
  Φ p := if p.val = 0 then Pipeline.ΦDRV osem0 cfg0.spec H0 R0 (V m) (V m) c else Pipeline.ΦDRV osem0 cfg0.spec H0 R0 (V m) (G m) c
  q _ := fullShare
  owed _ := 0

/-- Entering the one point, the results hold what they held entering the region. -/
theorem Phi_first (c : Dev nD) : (dats m 0 c).Φ t0_0.castSucc = Pipeline.ΦDRV osem0 cfg0.spec H0 R0 (V m) (V m) c := rfl
/-- Leaving the one point, the results hold what the region writes. -/
theorem Phi_last (c : Dev nD) : (dats m 0 c).Φ t0_0.succ = Pipeline.ΦDRV osem0 cfg0.spec H0 R0 (V m) (G m) c := rfl

set_option maxHeartbeats 2000000 in
/-- From the region's parts as found, the body ends with the results at `G`. -/
theorem sound_parts (c : Dev nD) (W : Waits sig Unit) (K : PUnit → sProp 𝕄) :
    iprop(Pipeline.ΦDRV osem0 cfg0.spec H0 R0 (V m) (V m) c ∗ owes (c : Thread nD τ) 0 W
      ∗ (iprop(Pipeline.ΦDRV osem0 cfg0.spec H0 R0 (V m) (G m) c ∗ ∃ W', owes (c : Thread nD τ) 0 W') -∗ K ⟨⟩))
    ⊢ wp frame (wpE (defs₀ (F := F)) Variants.none c none) Set.univ (bodyAt0 t0_0) K := by
  rw [PhiDRV0_eq, PhiDRV0_eq, G_0, G_1, G_2]
  iintro ⟨⟨⟨⟨%g0, S0⟩, ⟨%g1, S1⟩, ⟨%g2, S2⟩, ⟨%g3, S3⟩, ⟨%g4, S4⟩, ⟨%g5, S5⟩, ⟨%g6, S6⟩, ⟨%g7, S7⟩, ⟨%g8, S8⟩⟩, ⟨Q0, Q1, Q2, Q3, Q4, Q5, Q6, Q7, Q8, Q9, Q10, Q11, Q12, Q13, Q14, Q30, Q31, Q32, Q33, Q34, Q35, Q36, Q37, Q38, Q39, Q40, Q41, Q42, Q43, Q44⟩, ⟨H0, H1, H2, H3, H4, H5⟩, ⟨R0, R1, R2⟩⟩, HW, Hk⟩
  iapply (body_run c (V m c main_arg0) (V m c main_v0) (V m c main_v1) (V m c main_arg2) (V m c main_v2) (V m c main_v4)
    (V m c main_v5_0) (V m c main_v5_1) (V m c main_v5_2) g0 g1 g2 g3 g4 g5 g6 g7 g8 W K)
  isplitl [H0]; · iexact H0
  isplitl [H1]; · iexact H1
  isplitl [H2]; · iexact H2
  isplitl [H3]; · iexact H3
  isplitl [H4]; · iexact H4
  isplitl [H5]; · iexact H5
  isplitl [R0]; · iexact R0
  isplitl [R1]; · iexact R1
  isplitl [R2]; · iexact R2
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  isplitl [Q38]; · iexact Q38
  isplitl [Q39]; · iexact Q39
  isplitl [Q40]; · iexact Q40
  isplitl [Q41]; · iexact Q41
  isplitl [Q42]; · iexact Q42
  isplitl [Q43]; · iexact Q43
  isplitl [Q44]; · iexact Q44
  isplitl [HW]; · iexact HW
  iintro ⟨H0, H1, H2, H3, H4, H5, ⟨%r0, %e0, R0⟩, ⟨%r1, %e1, R1⟩, ⟨%r2, %e2, R2⟩, ⟨%k0, S0⟩, ⟨%k1, S1⟩, ⟨%k2, S2⟩, ⟨%k3, S3⟩, ⟨%k4, S4⟩, ⟨%k5, S5⟩, ⟨%k6, S6⟩, ⟨%k7, S7⟩, ⟨%k8, S8⟩, Q0, Q1, Q2, Q3, Q4, Q5, Q6, Q7, Q8, Q9, Q10, Q11, Q12, Q13, Q14, Q30, Q31, Q32, Q33, Q34, Q35, Q36, Q37, Q38, Q39, Q40, Q41, Q42, Q43, Q44, ⟨%W', HW⟩⟩
  subst e0 e1 e2
  iapply Hk
  isplitr [HW]
  swap; · iexists W'; iexact HW
  isplitl [S0 S1 S2 S3 S4 S5 S6 S7 S8]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    iexists _; iexact S8
  isplitl [Q0 Q1 Q2 Q3 Q4 Q5 Q6 Q7 Q8 Q9 Q10 Q11 Q12 Q13 Q14 Q30 Q31 Q32 Q33 Q34 Q35 Q36 Q37 Q38 Q39 Q40 Q41 Q42 Q43 Q44]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q30]; · iexact Q30
    isplitl [Q31]; · iexact Q31
    isplitl [Q32]; · iexact Q32
    isplitl [Q33]; · iexact Q33
    isplitl [Q34]; · iexact Q34
    isplitl [Q35]; · iexact Q35
    isplitl [Q36]; · iexact Q36
    isplitl [Q37]; · iexact Q37
    isplitl [Q38]; · iexact Q38
    isplitl [Q39]; · iexact Q39
    isplitl [Q40]; · iexact Q40
    isplitl [Q41]; · iexact Q41
    isplitl [Q42]; · iexact Q42
    isplitl [Q43]; · iexact Q43
    iexact Q44
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [R0]; · iexact R0
  isplitl [R1]; · iexact R1
  iexact R2

/-- The body's obligation at the one point. -/
theorem sound_body (c : Dev nD) :
    iprop((dats m 0 c).Φ t0_0.castSucc ∗ (dats m 0 c).owesAt () t0_0.castSucc)
      ⊢ wp frame (wpE (defs₀ (F := F)) Variants.none c none) Set.univ (bodyAt0 t0_0)
        (fun _ => iprop((dats m 0 c).Φ t0_0.succ ∗ (dats m 0 c).owesAt () t0_0.succ)) := by
  rw [Phi_first, Phi_last]
  unfold Dat.owesAt Pipeline.owesWithin
  rw [show (dats m 0 c).owed t0_0.castSucc = 0 from rfl, show (dats m 0 c).owed t0_0.succ = 0 from rfl]
  iintro ⟨HP, ⟨%W, -, HW⟩⟩
  iapply (sound_parts m c W _)
  isplitl [HP]; · iexact HP
  isplitl [HW]; · iexact HW
  iintro ⟨HP, ⟨%W', HW⟩⟩
  isplitl [HP]; · iexact HP
  iexists W'
  isplitr
  · ipureintro; exact fun _ _ => Or.inl trivial
  iexact HW

/-- The body's row in the table of bodies is the printed body. -/
theorem defs₀_row (t : Fin cfg0.N) : defs₀ (F := F) .tc cfg0.body (cfg0.bodyArgs t (cfg0.slots t)) = bodyAt0 t := by
  unfold defs₀; rw [Defs.onTc_tc]

/-- The body meets what the launch asks of it. -/
theorem body_obligation (c : Dev nD) : BodyObligation (dats (F := F) m 0 c) (defs₀ (F := F)) Variants.none () Set.univ := fun t => by
  obtain rfl := fin_N0 t
  rw [defs₀_row, show (Finset.univ : Finset (Fin cfg0.W)) = ∅ from rfl, BI.bigSep_empty, BI.bigSep_empty]
  refine triple_restated (sound_body m c) rfl ?_ fun _ => ?_
  · iintro ⟨HP, HW, -⟩
    isplitl [HP]; · iexact HP
    iexact HW
  · iintro ⟨HP, HW⟩
    isplitl [HP]; · iexact HP
    isplitl [HW]; · iexact HW
    iempintro

set_option maxHeartbeats 800000 in
/-- @main is the host lines before the region, the region, and the host lines after it. -/
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What core `c`'s buffers hold when @main ends: the host lines after the region run on the buffers as the region leaves them. -/
def Vend (c : Dev nD) : Valuation τ sig (Elt F) := StableHlo.after hostOps1 (Pipeline.withR (V0 m c) R0 c (G m c))

/-- With no window there is no array of the pipeline to put back: the lines run on the buffers as the region leaves them. -/
theorem tail_eq (c : Dev nD) (A : (w : Fin cfg0.W) → Buf (Elt F) ((cfg0.spec w).arr.view.loc (c : Thread nD τ))) (b : Ref sig .tc) :
    StableHlo.after [hostOps1].flatten (Pipeline.withArrays cfg0.spec c (Pipeline.withR (V0 m c) R0 c (G m c)) A) (Proc.devRef .tc b)
      = Vend m c (Proc.devRef .tc b) := by
  have e : Pipeline.withArrays cfg0.spec c (Pipeline.withR (V0 m c) R0 c (G m c)) A = Pipeline.withR (V0 m c) R0 c (G m c) :=
    funext fun b => dif_neg (fun ⟨w, _⟩ => w.elim0)
  rw [e]
  unfold Vend
  rw [List.flatten_cons, List.flatten_nil, List.append_nil]

set_option backward.isDefEq.respectTransparency.types false in
/-- Every execution of @main ends, each buffer that is no scratch at what the host lines leave, every semaphore at zero. -/
theorem run_main : θ_run defs (onTc (τ := τ) (main (F := F))) (s₀ m ρ) (fun r =>
    (∀ c : Dev nD, ∀ b ∈ Pipeline.restRefs sig cfg0.spec, r.2.mem ((c : Thread nD τ).loc b) = Vend m c (Proc.devRef .tc b)) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmainD m) (hA := fun _ w => w.elim0) (hin := fun _ => .rfl) (hout := fun _ => .rfl)
    (hQ' := fun r h => ⟨fun c b hb => (h.1 c).2 b hb |>.trans (tail_eq m c _ b), h.2⟩)

end Cert.KernelIdeal.Hand

end
-- ==== Proof.Scatter.lean ====
/-
  Hand-written, untrusted. A scatter that replaces rows, when the row written by update `i` is row `i`: the updates laid
  over the operand. Once for matrices and once for vectors, at any sizes. Nothing here names a program.
-/
module

public import proofs.«01_k».proof.Proof.Rows
public import Idealize.ShloMosaic.Lib.Routing.OpsSet
public import Idealize.ShloMosaic.Lib.Routing.OpsPair

@[expose] public section

noncomputable section

namespace Cert.Rows

open Idealize.ShloMosaic Idealize.ShloMosaic.ValueIdx
open Idealize.ShloMosaic.Routing (shape1 shape2 scatter_set_hit scatter_set_miss resultIdx?_eq_some)

variable {A B C : ℕ} {α : Type}

/-- Where update `k` of a scatter of whole rows lands, when index `i` is the word of `i`: at its own row and column. -/
theorem rows_land (d : ScatterDims (shape2 B C) (shape2 A 1) (shape2 A C)) (hu : d.updateWindowDims = [1]) (hw : d.insertedWindowDims = [0])
    (hs : d.scatterDimsToOperandDims = [0]) (hv : d.indexVectorDim = 1) (idx : IVec (shape2 A 1) 32)
    (hi : ∀ i : Fin A, (idx (ix2 i (0 : Fin 1))).toInt = (i.val : Int)) (k : (shape2 A C).Idx) (ι : (shape2 B C).Idx) :
    d.resultIdx? k idx = some ι ↔ (k 0).val = (ι 0).val ∧ (k 1).val = (ι 1).val := by
  obtain ⟨uw, iw, sd, iv, wf⟩ := d
  subst hu hw hs hv
  set d : ScatterDims (shape2 B C) (shape2 A 1) (shape2 A C) := ⟨[1], [0], [0], 1, wf⟩ with hd
  have hsi : ∀ c, d.siIdx k c = ix2 (k 0) (0 : Fin 1) := fun c => by
    funext b
    apply Fin.ext
    match b with
    | ⟨0, _⟩ => rfl
    | ⟨1, _⟩ => exact congrArg Fin.val (Subsingleton.elim (α := Fin 1) _ _)
  have s0 : d.start k idx 0 = ((k 0).val : Int) := by
    refine Eq.trans (dif_pos (List.mem_singleton.2 rfl)) ?_
    rw [hsi]
    exact hi (k 0)
  have s1 : d.start k idx 1 = 0 := dif_neg (by simp [hd])
  have w0 : d.window k 0 = 0 := rfl
  have w1 : d.window k 1 = (k 1).val := rfl
  rw [resultIdx?_eq_some, Fin.forall_fin_two, s0, s1, w0, w1]
  constructor
  · rintro ⟨h0, h1⟩
    exact ⟨by omega, by omega⟩
  · rintro ⟨h0, h1⟩
    exact ⟨by omega, by omega⟩

/-- A scatter that replaces whole rows, row `i` by update `i`: the updates over the operand. -/
theorem scatter_rows (d : ScatterDims (shape2 B C) (shape2 A 1) (shape2 A C)) (hu : d.updateWindowDims = [1]) (hw : d.insertedWindowDims = [0])
    (hs : d.scatterDimsToOperandDims = [0]) (hv : d.indexVectorDim = 1) (idx : IVec (shape2 A 1) 32)
    (hi : ∀ i : Fin A, (idx (ix2 i (0 : Fin 1))).toInt = (i.val : Int)) (x : (shape2 B C).Idx → α) (upd : (shape2 A C).Idx → α) :
    Host.scatter d (fun _ b => b) x idx upd = overlay upd x := by
  have land := rows_land d hu hw hs hv idx hi
  funext ι
  unfold overlay
  split
  · next h =>
    refine scatter_set_hit d x idx upd ι _ (fun k hk => congrArg upd ?_) (ix2 ⟨(ι 0).val, h⟩ (ι 1)) ((land _ ι).2 ⟨rfl, rfl⟩)
    obtain ⟨h0, h1⟩ := (land k ι).1 hk
    exact funext (Fin.forall_fin_two.mpr ⟨Fin.ext h0, Fin.ext h1⟩)
  · next h =>
    refine scatter_set_miss d x idx upd ι fun k hk => h ?_
    have := (k 0).isLt
    rw [← ((land k ι).1 hk).1]
    exact this

/-- Where update `k` of a scatter of scalars lands, when index `i` is the word of `i`: at its own place. -/
theorem entries_land (d : ScatterDims (shape1 B) (shape2 A 1) (shape1 A)) (hu : d.updateWindowDims = []) (hw : d.insertedWindowDims = [0])
    (hs : d.scatterDimsToOperandDims = [0]) (hv : d.indexVectorDim = 1) (idx : IVec (shape2 A 1) 32)
    (hi : ∀ i : Fin A, (idx (ix2 i (0 : Fin 1))).toInt = (i.val : Int)) (k : (shape1 A).Idx) (ι : (shape1 B).Idx) :
    d.resultIdx? k idx = some ι ↔ (k 0).val = (ι 0).val := by
  obtain ⟨uw, iw, sd, iv, wf⟩ := d
  subst hu hw hs hv
  set d : ScatterDims (shape1 B) (shape2 A 1) (shape1 A) := ⟨[], [0], [0], 1, wf⟩ with hd
  have hsi : ∀ c, d.siIdx k c = ix2 (k 0) (0 : Fin 1) := fun c => by
    funext b
    apply Fin.ext
    match b with
    | ⟨0, _⟩ => rfl
    | ⟨1, _⟩ => exact congrArg Fin.val (Subsingleton.elim (α := Fin 1) _ _)
  have s0 : d.start k idx 0 = ((k 0).val : Int) := by
    refine Eq.trans (dif_pos (List.mem_singleton.2 rfl)) ?_
    rw [hsi]
    exact hi (k 0)
  have w0 : d.window k 0 = 0 := rfl
  rw [resultIdx?_eq_some, show (∀ a : Fin 1, d.start k idx a + (d.window k a : Int) = ((ι a).val : Int)) ↔ _ from Fin.forall_fin_one, s0, w0]
  omega

/-- A scatter that replaces scalars, entry `i` by update `i`: the updates over the operand. -/
theorem scatter_entries (d : ScatterDims (shape1 B) (shape2 A 1) (shape1 A)) (hu : d.updateWindowDims = []) (hw : d.insertedWindowDims = [0])
    (hs : d.scatterDimsToOperandDims = [0]) (hv : d.indexVectorDim = 1) (idx : IVec (shape2 A 1) 32)
    (hi : ∀ i : Fin A, (idx (ix2 i (0 : Fin 1))).toInt = (i.val : Int)) (x : (shape1 B).Idx → α) (upd : (shape1 A).Idx → α) :
    Host.scatter d (fun _ b => b) x idx upd = overlay1 upd x := by
  have land := entries_land d hu hw hs hv idx hi
  funext ι
  unfold overlay1
  split
  · next h =>
    refine scatter_set_hit d x idx upd ι _ (fun k hk => congrArg upd ?_) (ix1 ⟨(ι 0).val, h⟩) ((land _ ι).2 rfl)
    exact funext (Fin.forall_fin_one.mpr (Fin.ext ((land k ι).1 hk)))
  · next h =>
    refine scatter_set_miss d x idx upd ι fun k hk => h ?_
    have := (k 0).isLt
    rw [← (land k ι).1 hk]
    exact this

/-- Reshaping a matrix of `A` rows laid over one of `B` rows is laying the vector of the first `A * C` entries over the vector of all `B * C`,
    when the two matrices are reshapes of the two vectors. -/
theorem overlay_reshape {N M : ℕ} (hN : N = A * C) (top : (shape1 N).Idx → α) (rest : (shape1 M).Idx → α)
    (ht : (shape1 N).ShapeCasts (shape2 A C)) (hr : (shape1 M).ShapeCasts (shape2 B C)) (hb : (shape2 B C).ShapeCasts (shape1 M)) :
    shapeCast (shape1 M) (overlay (shapeCast (shape2 A C) top ht) (shapeCast (shape2 B C) rest hr)) hb = overlay1 top rest := by
  have r1 : ∀ {K : ℕ} (x : (shape1 K).Idx), ((shape1 K).rowMajor x : ℕ) = (x 0).val := fun x => Shape.rowMajor_val_one x
  have r2 : ∀ {K L : ℕ} (x : (shape2 K L).Idx), ((shape2 K L).rowMajor x : ℕ) = (x 0).val * L + (x 1).val := fun x => Shape.rowMajor_val_two x
  funext ι
  show overlay (shapeCast (shape2 A C) top ht) (shapeCast (shape2 B C) rest hr) (Shape.reshapeEquiv hb ι) = _
  generalize hκ : Shape.reshapeEquiv hb ι = κ
  have pos : (κ 0).val * C + (κ 1).val = (ι 0).val := by
    rw [← r2, ← hκ, Shape.rowMajor_reshapeEquiv, r1]
  have hc : (κ 1).val < C := (κ 1).isLt
  have iff : (κ 0).val < A ↔ (ι 0).val < N := by
    subst hN
    rw [← pos]
    constructor
    · intro h
      have : ((κ 0).val + 1) * C ≤ A * C := Nat.mul_le_mul_right C h
      rw [Nat.succ_mul] at this
      omega
    · intro h
      by_contra g
      have : A * C ≤ (κ 0).val * C := Nat.mul_le_mul_right C (Nat.le_of_not_lt g)
      omega
  unfold overlay overlay1
  by_cases h : (κ 0).val < A
  · rw [dif_pos h, dif_pos (iff.1 h)]
    refine congrArg top (Shape.reshapeEquiv_eq_of_rowMajor _ ?_)
    rw [r1, r2]
    exact pos.symm
  · rw [dif_neg h, dif_neg (mt iff.2 h)]
    show rest (Shape.reshapeEquiv hr κ) = rest ι
    rw [← hκ, Shape.reshapeEquiv_reshapeEquiv, Shape.reshapeEquiv_self]

end Cert.Rows

end
-- ==== Proof.KI.Value.lean ====
/-
  Hand-written, untrusted. What the whole program leaves in its three results and its five arguments: the run of
  Run.lean, its host operations before and after the region computed.
-/
module

public import proofs.«01_k».proof.Proof.KI.Run
public import proofs.«01_k».proof.Proof.Scatter
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe
open Idealize.SL.Sem
open Cert.Rows

variable {F : FTy → Type} [FloatOps F]
variable (m : (ℓ : Loc nD τ sig) → Buf (Elt F) ℓ) (ρ : Dev nD → PrngReg)

/-- After the region the first result holds the first argument's rows over the third's. -/
theorem R_0 (c : Dev nD) : Pipeline.withR (V0 m c) R0 c (G m c) (Proc.devRef .tc main_v5_0) = overlay (V m c main_arg0) (V m c main_arg2) :=
  (Pipeline.withR_of_mem _ _ _ _ main_v5_0 (by decide)).trans (G_0 m c)

/-- After the region the second result holds the reshaped words of the batch over those of the store. -/
theorem R_1 (c : Dev nD) : Pipeline.withR (V0 m c) R0 c (G m c) (Proc.devRef .tc main_v5_1) = overlay (V m c main_v0) (V m c main_v2) :=
  (Pipeline.withR_of_mem _ _ _ _ main_v5_1 (by decide)).trans (G_1 m c)

/-- After the region the third result holds ones over the reshaped flags of the store. -/
theorem R_2 (c : Dev nD) : Pipeline.withR (V0 m c) R0 c (G m c) (Proc.devRef .tc main_v5_2) = overlay (V m c main_v1) (V m c main_v4) :=
  (Pipeline.withR_of_mem _ _ _ _ main_v5_2 (by decide)).trans (G_2 m c)

/-- Entering the region, the batch's words stand as a matrix of 128 rows. -/
theorem V_v0 (c : Dev nD) : V m c main_v0 = shapeCast S128x128 (m ((c : Thread nD τ).loc main_arg1)) shapeCasts_S16384_S128x128 := by
  entry_read
  rfl

/-- Entering the region, the store's words stand as a matrix of 1024 rows. -/
theorem V_v2 (c : Dev nD) : V m c main_v2 = shapeCast S1024x128 (m ((c : Thread nD τ).loc main_arg3)) shapeCasts_S131072_S1024x128 := by
  entry_read
  rfl

/-- Entering the region, every one of the batch's flags is the byte one. -/
theorem V_v1 (c : Dev nD) : V m c main_v1 = shapeCast S128x128 (fun _ : S16384.Idx => 1#8) shapeCasts_S16384_S128x128 := by
  entry_read
  rfl

/-- Entering the region, the store's flags stand as bytes in a matrix of 1024 rows. -/
theorem V_v4 (c : Dev nD) : V m c main_v4 = shapeCast S1024x128 (extui 8 (m ((c : Thread nD τ).loc main_arg4))) shapeCasts_S131072_S1024x128 := by
  entry_read
  rfl

/-- A flag widened to a byte differs from zero exactly when the flag is set. -/
theorem byte_ne_zero (b : BitVec 1) : IntOp.cmpi .ne (b.setWidth 8) 0#8 = b := by
  revert b
  decide

/-- The first result: the first argument's rows over the third's. -/
theorem Vend_v5_0 (c : Dev nD) : Vend m c (Proc.devRef .tc main_v5_0) = overlay (m ((c : Thread nD τ).loc main_arg0)) (m ((c : Thread nD τ).loc main_arg2)) := by
  unfold Vend
  after_results
  rw [R_0, V_main_arg0, V_main_arg2]

/-- The second result: the second argument's words over the fourth's. -/
theorem Vend_v6 (c : Dev nD) : Vend m c (Proc.devRef .tc main_v6) = overlay1 (m ((c : Thread nD τ).loc main_arg1)) (m ((c : Thread nD τ).loc main_arg3)) := by
  unfold Vend
  after_results
  rw [R_1, V_v0, V_v2]
  exact overlay_reshape (A := 128) (B := 1024) (C := 128) (N := 16384) (M := 131072) (by norm_num) _ _ _ _ _

/-- The third result: set flags over the fifth argument's. -/
theorem Vend_v10 (c : Dev nD) : Vend m c (Proc.devRef .tc main_v10) = overlay1 (A := 16384) (fun _ => 1#1) (m ((c : Thread nD τ).loc main_arg4)) := by
  unfold Vend
  after_results
  rw [R_2, V_v1, V_v4]
  refine Eq.trans (congrArg (fun x : S131072.Idx → BitVec 8 => fun ι => IntOp.cmpi .ne (x ι) 0#8)
    (overlay_reshape (A := 128) (B := 1024) (C := 128) (N := 16384) (M := 131072) (by norm_num) _ _ _ _ _)) ?_
  funext ι
  unfold overlay1
  dsimp only
  split
  · rfl
  · exact byte_ne_zero _

/-- The first argument is as it was. -/
theorem Vend_arg0 (c : Dev nD) : Vend m c (Proc.devRef .tc main_arg0) = m ((c : Thread nD τ).loc main_arg0) := by
  unfold Vend
  after_results
  exact (Pipeline.withR_of_not_mem _ _ _ _ main_arg0 (by decide)).trans (V_main_arg0 m c)

/-- The second argument is as it was. -/
theorem Vend_arg1 (c : Dev nD) : Vend m c (Proc.devRef .tc main_arg1) = m ((c : Thread nD τ).loc main_arg1) := by
  unfold Vend
  after_results
  exact (Pipeline.withR_of_not_mem _ _ _ _ main_arg1 (by decide)).trans (V_main_arg1 m c)

/-- The third argument is as it was. -/
theorem Vend_arg2 (c : Dev nD) : Vend m c (Proc.devRef .tc main_arg2) = m ((c : Thread nD τ).loc main_arg2) := by
  unfold Vend
  after_results
  exact (Pipeline.withR_of_not_mem _ _ _ _ main_arg2 (by decide)).trans (V_main_arg2 m c)

/-- The fourth argument is as it was. -/
theorem Vend_arg3 (c : Dev nD) : Vend m c (Proc.devRef .tc main_arg3) = m ((c : Thread nD τ).loc main_arg3) := by
  unfold Vend
  after_results
  exact (Pipeline.withR_of_not_mem _ _ _ _ main_arg3 (by decide)).trans (V_main_arg3 m c)

/-- The fifth argument is as it was. -/
theorem Vend_arg4 (c : Dev nD) : Vend m c (Proc.devRef .tc main_arg4) = m ((c : Thread nD τ).loc main_arg4) := by
  unfold Vend
  after_results
  exact (Pipeline.withR_of_not_mem _ _ _ _ main_arg4 (by decide)).trans (V_main_arg4 m c)

/-- The program's run, read back, for any float values: the three results, the five arguments as they were, every
    counter at zero. -/
theorem run_values : θ_run defs (onTc (τ := τ) (main (F := F))) ⟨m, fun _ => 0, ρ⟩ fun r => (∀ c : Dev nD,
      r.2.mem ((c.tc : Thread nD τ).loc main_v5_0) = overlay (m ((c.tc : Thread nD τ).loc main_arg0)) (m ((c.tc : Thread nD τ).loc main_arg2))
      ∧ r.2.mem ((c.tc : Thread nD τ).loc main_v6) = overlay1 (m ((c.tc : Thread nD τ).loc main_arg1)) (m ((c.tc : Thread nD τ).loc main_arg3))
      ∧ r.2.mem ((c.tc : Thread nD τ).loc main_v10) = overlay1 (A := 16384) (fun _ => 1#1) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun _ h => ⟨fun c => ⟨
    (h.1 c main_v5_0 (Pipeline.mem_restRefs_of main_v5_0 (by decide) (by decide))).trans (Vend_v5_0 m c),
    (h.1 c main_v6 (Pipeline.mem_restRefs_of main_v6 (by decide) (by decide))).trans (Vend_v6 m c),
    (h.1 c main_v10 (Pipeline.mem_restRefs_of main_v10 (by decide) (by decide))).trans (Vend_v10 m c),
    (h.1 c main_arg0 (Pipeline.mem_restRefs_of main_arg0 (by decide) (by decide))).trans (Vend_arg0 m c),
    (h.1 c main_arg1 (Pipeline.mem_restRefs_of main_arg1 (by decide) (by decide))).trans (Vend_arg1 m c),
    (h.1 c main_arg2 (Pipeline.mem_restRefs_of main_arg2 (by decide) (by decide))).trans (Vend_arg2 m c),
    (h.1 c main_arg3 (Pipeline.mem_restRefs_of main_arg3 (by decide) (by decide))).trans (Vend_arg3 m c),
    (h.1 c main_arg4 (Pipeline.mem_restRefs_of main_arg4 (by decide) (by decide))).trans (Vend_arg4 m c)⟩, h.2⟩) (run_main m ρ)

end Cert.KernelIdeal.Hand

end
-- ==== Proof.Ref.lean ====
/-
  Hand-written, untrusted. The reference's three results: the row its scatters write by update `i` is row `i` — the
  count from zero, reduced modulo the store's length, is unchanged — so each result is the batch laid over the store.
-/
module

public import proofs.«01_k».proof.Proof.Gen.ReferenceIdeal.Run
public import proofs.«01_k».proof.Proof.Scatter
public import Idealize.ShloMosaic.Lib.Routing.Words
public import Idealize.ShloMosaic.Lib.Routing.BitFacts

@[expose] public section

set_option maxRecDepth 8192

noncomputable section

namespace Cert.ReferenceIdeal.Hand

open Cert.ReferenceIdeal Cert.ReferenceIdeal.Gen Cert.ReferenceIdeal.Value
open Idealize.ShloMosaic Idealize.ShloMosaic.TcCoe
open Idealize.SL.Sem
open Cert.Rows

variable {F : FTy → Type} [FloatOps F]
variable (m : (ℓ : Loc nD τ sig) → Buf (Elt F) ℓ)

/-- A count below 16384, reduced modulo 131072 with the divisor's sign and made nonnegative, is the count. -/
theorem count_word (n : ℕ) (hn : n < 16384) :
    (let r := IntOp.remsi .host (IntOp.addi (BitVec.ofNat 32 n) 0#32) 131072#32
     let w := if IntOp.andi (IntOp.cmpi .ne (IntOp.cmpi .slt r 0#32) 0#1) (IntOp.cmpi .ne r 0#32) = 1#1 then IntOp.addi r 131072#32 else r
     if IntOp.cmpi .slt w 0#32 = 1#1 then IntOp.addi w 131072#32 else w) = BitVec.ofNat 32 n := by
  have h0 : IntOp.addi (BitVec.ofNat 32 n) 0#32 = BitVec.ofNat 32 n := BitVec.add_zero _
  have hr : IntOp.remsi .host (BitVec.ofNat 32 n) 131072#32 = BitVec.ofNat 32 n :=
    (Routing.remsi_word .host (by omega) (by norm_num) (by norm_num)).trans (congrArg _ (Nat.mod_eq_of_lt (by omega)))
  have hs : IntOp.cmpi .slt (BitVec.ofNat 32 n) 0#32 = 0#1 :=
    congrArg BitVec.ofBool ((Routing.slt_ofNat32 (by omega) (by norm_num)).trans (decide_eq_false (Nat.not_lt_zero n)))
  have ha : ∀ b : BitVec 1, IntOp.andi (IntOp.cmpi .ne 0#1 0#1) b = 0#1 := by decide
  have hn : ¬ (0#1 : BitVec 1) = 1#1 := by decide
  simp only [h0, hr, hs, ha, if_neg hn]

/-- The word of a count below 16384, read signed, is the count. -/
theorem count_toInt (i : Fin 16384) : (BitVec.ofNat 32 i.val).toInt = (i.val : Int) :=
  StableHlo.Predicate.toInt_ofNat_small _ (by have := i.isLt; omega)

/-- The first result: the batch's rows over the store's. -/
theorem out0 (c : Dev nD) : res_out0 m c = overlay (m ((c.tc : Thread nD τ).loc main_arg0)) (m ((c.tc : Thread nD τ).loc main_arg2)) := by
  unfold res_out0 res_main_v10
  refine scatter_rows _ rfl rfl rfl rfl _ (fun i => ?_) _ _
  refine Eq.trans (congrArg BitVec.toInt (Eq.trans ?_ (count_word i.val i.isLt))) (count_toInt i)
  rfl

/-- The second result: the batch's words over the store's. -/
theorem out1 (c : Dev nD) : res_out1 m c = overlay1 (m ((c.tc : Thread nD τ).loc main_arg1)) (m ((c.tc : Thread nD τ).loc main_arg3)) := by
  unfold res_out1 res_main_v17
  refine scatter_entries _ rfl rfl rfl rfl _ (fun i => ?_) _ _
  refine Eq.trans (congrArg BitVec.toInt (Eq.trans ?_ (count_word i.val i.isLt))) (count_toInt i)
  rfl

/-- The third result: set flags over the store's. -/
theorem out2 (c : Dev nD) : res_out2 m c = overlay1 (A := 16384) (fun _ => 1#1) (m ((c.tc : Thread nD τ).loc main_arg4)) := by
  unfold res_out2 res_main_v25
  refine scatter_entries _ rfl rfl rfl rfl _ (fun i => ?_) _ _
  refine Eq.trans (congrArg BitVec.toInt (Eq.trans ?_ (count_word i.val i.isLt))) (count_toInt i)
  rfl

end Cert.ReferenceIdeal.Hand

end
-- ==== Proof.lean ====
/-
  Hand-written, untrusted. The claim: the kernel's run (KI/Value.lean) and the reference's (Gen/ReferenceIdeal/Run.lean,
  its results computed in Ref.lean), each weakened to what the claim asks of it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KI.Value
public import proofs.«01_k».proof.Proof.Ref
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The kernel as it stands runs, leaves its arguments as they were and every counter at zero. Its text is the ideal
    program's, so the run proved for any float values is read here at the machine's own. -/
theorem frame_kernel : Cert.quiescent_Kernel := fun m g _ =>
  (θ_run _ _ _).mono (fun _ h => ⟨fun c => (h.1 c).2.2.2, h.2⟩) (Cert.KernelIdeal.Hand.run_values (F := Bits) m g)

/-- The kernel over extended reals runs, leaves its arguments as they were and every counter at zero. -/
theorem frame_ideal : Cert.quiescent_KernelIdeal := fun m g _ =>
  (θ_run _ _ _).mono (fun _ h => ⟨fun c => (h.1 c).2.2.2, h.2⟩) (Cert.KernelIdeal.Hand.run_values (F := Ideal) m g)

/-- The reference runs, leaves its arguments as they were and every counter at zero. -/
theorem frame_reference : Cert.quiescent_ReferenceIdeal := fun m g _ =>
  (θ_run _ _ _).mono (fun r h => ⟨fun c => (h c).2.2.2, sem_eq_zero_of_no_sems (by decide) r.2⟩)
    (Cert.ReferenceIdeal.Value.run (F := Ideal) m g)

/-- Kernel and reference end with the same three results: each is the batch laid over the store. -/
theorem same_results : Cert.algebraic_KernelIdeal_ReferenceIdeal := fun m g m' g' _ hag =>
  ⟨_, _, _, (θ_run _ _ _).mono (fun _ h => h.1) (Cert.KernelIdeal.Hand.run_values (F := Ideal) m g),
    (θ_run _ _ _).mono (fun _ h c => by
      obtain ⟨a0, a1, a2, a3, a4⟩ := hag c
      obtain ⟨h0, h1, h2, hr⟩ := h c
      refine ⟨h0.trans ((Cert.ReferenceIdeal.Hand.out0 m' c).trans ?_), h1.trans ((Cert.ReferenceIdeal.Hand.out1 m' c).trans ?_),
        h2.trans ((Cert.ReferenceIdeal.Hand.out2 m' c).trans ?_), hr⟩
      · exact congrArg₂ Cert.Rows.overlay a0 a2
      · exact congrArg₂ Cert.Rows.overlay1 a1 a3
      · exact congrArg (Cert.Rows.overlay1 (A := 16384) fun _ => 1#1) a4)
    (Cert.ReferenceIdeal.Value.run (F := Ideal) m' g')⟩

/-- All five claims. -/
theorem claim : Cert.Claim :=
  ⟨Cert.Kernel.Gen.facts, Cert.KernelIdeal.Gen.facts, Cert.ReferenceIdeal.Gen.facts,
    frame_kernel, frame_ideal, frame_reference, trivial, same_results⟩

end Cert.Proof

end
